-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S8192x1024 : Shape := ⟨2, ![8192, 1024]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S1024x512 : Shape := ⟨2, ![1024, 512]⟩
abbrev S2048x1024 : Shape := ⟨2, ![2048, 1024]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  bcast_S_S512x1024 : S_.BroadcastsInDim S512x1024 (![] : Fin 0 → Fin S512x1024.rank)
  bcast_S_S256x512 : S_.BroadcastsInDim S256x512 (![] : Fin 0 → Fin S256x512.rank)
  bcast_S_S256x256 : S_.BroadcastsInDim S256x256 (![] : Fin 0 → Fin S256x256.rank)
  bcast_S_S512x256 : S_.BroadcastsInDim S512x256 (![] : Fin 0 → Fin S512x256.rank)
  bcast_S_S1024x512 : S_.BroadcastsInDim S1024x512 (![] : Fin 0 → Fin S1024x512.rank)
  bcast_S_S2048x1024 : S_.BroadcastsInDim S2048x1024 (![] : Fin 0 → Fin S2048x1024.rank)

variable [Facts]

def fn_part1 {F : FTy → Type} [FloatOps F] (main_arg14 : FVec F S2048x1024 .f32) (main_v2 : IVec S1024x2048 1) (main_v5 : IVec S512x1024 1) (main_v8 : IVec S256x512 1) (main_v11 : IVec S256x256 1) (main_v14 : IVec S512x256 1) (main_v17 : IVec S1024x512 1) : IVec S1024x2048 1 × IVec S512x1024 1 × IVec S256x512 1 × IVec S256x256 1 × IVec S512x256 1 × IVec S1024x512 1 × IVec S2048x1024 1 :=
  let main_v18 : FVec F S2048x1024 .f32 := Host.absf main_arg14
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1024x2048 .f32) (main_arg3 : FVec F S1024 .f32) (main_arg4 : FVec F S512x1024 .f32) (main_arg5 : FVec F S512 .f32) (main_arg6 : FVec F S256x512 .f32) (main_arg7 : FVec F S256 .f32) (main_arg8 : FVec F S256x256 .f32) (main_arg9 : FVec F S256 .f32) (main_arg10 : FVec F S512x256 .f32) (main_arg11 : FVec F S512 .f32) (main_arg12 : FVec F S1024x512 .f32) (main_arg13 : FVec F S1024 .f32) (main_arg14 : FVec F S2048x1024 .f32) (main_arg15 : FVec F S2048 .f32) : IVec S1024x2048 1 × IVec S512x1024 1 × IVec S256x512 1 × IVec S256x256 1 × IVec S512x256 1 × IVec S1024x512 1 × IVec S2048x1024 1 :=
  let main_v0 : FVec F S1024x2048 .f32 := Host.absf main_arg2
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S512x1024 .f32 := Host.absf main_arg4
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S256x512 .f32 := Host.absf main_arg6
  let main_cst_1 : FVec F S_ .f32 := constant S_ .f32 0x7F800000#32
  let main_v7 : FVec F S256x512 .f32 := broadcastInDim S256x512 ![] bcast_S_S256x512 main_cst_1
  let main_v8 : IVec S256x512 1 := cmpf .olt main_v6 main_v7
  let main_v9 : FVec F S256x256 .f32 := Host.absf main_arg8
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_v12 : FVec F S512x256 .f32 := Host.absf main_arg10
  let main_cst_3 : FVec F S_ .f32 := constant S_ .f32 0x7F800000#32
  let main_v13 : FVec F S512x256 .f32 := broadcastInDim S512x256 ![] bcast_S_S512x256 main_cst_3
  let main_v14 : IVec S512x256 1 := cmpf .olt main_v12 main_v13
  let main_v15 : FVec F S1024x512 .f32 := Host.absf main_arg12
  let main_cst_4 : FVec F S_ .f32 := constant S_ .f32 0x7F800000#32
  let main_v16 : FVec F S1024x512 .f32 := broadcastInDim S1024x512 ![] bcast_S_S1024x512 main_cst_4
  let main_v17 : IVec S1024x512 1 := cmpf .olt main_v15 main_v16
  fn_part1 (F := F) main_arg14 main_v2 main_v5 main_v8 main_v11 main_v14 main_v17
-- ==== Kernel.lean ====
abbrev S8192x1024 : Shape := ⟨2, ![8192, 1024]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S1024x512 : Shape := ⟨2, ![1024, 512]⟩
abbrev S2048x1024 : Shape := ⟨2, ![2048, 1024]⟩
abbrev S2048 : Shape := ⟨1, ![2048]⟩
abbrev S1x1024 : Shape := ⟨2, ![1, 1024]⟩
abbrev S1x512 : Shape := ⟨2, ![1, 512]⟩
abbrev S1x256 : Shape := ⟨2, ![1, 256]⟩
abbrev S1x2048 : Shape := ⟨2, ![1, 2048]⟩
abbrev S8192x2048 : Shape := ⟨2, ![8192, 2048]⟩
abbrev S1x1024x2048 : Shape := ⟨3, ![1, 1024, 2048]⟩
abbrev S1 : Shape := ⟨1, ![1]⟩
abbrev S1x1x1 : Shape := ⟨3, ![1, 1, 1]⟩
abbrev S1x512x1024 : Shape := ⟨3, ![1, 512, 1024]⟩
abbrev S1x256x512 : Shape := ⟨3, ![1, 256, 512]⟩
abbrev S1x256x256 : Shape := ⟨3, ![1, 256, 256]⟩
abbrev S1x512x256 : Shape := ⟨3, ![1, 512, 256]⟩
abbrev S1x1024x512 : Shape := ⟨3, ![1, 1024, 512]⟩
abbrev S1x2048x1024 : Shape := ⟨3, ![1, 2048, 1024]⟩
abbrev S1024x1024 : Shape := ⟨2, ![1024, 1024]⟩
abbrev S1024x256 : Shape := ⟨2, ![1024, 256]⟩

abbrev nBuf : Space → Nat
  | .hbm => 31
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S512, .f32⟩
  | .hbm, ⟨12, _⟩ => ⟨S1024x512, .f32⟩
  | .hbm, ⟨13, _⟩ => ⟨S1024, .f32⟩
  | .hbm, ⟨14, _⟩ => ⟨S2048x1024, .f32⟩
  | .hbm, ⟨15, _⟩ => ⟨S2048, .f32⟩
  | .hbm, ⟨16, _⟩ => ⟨S1024x2048, .bf16⟩
  | .hbm, ⟨17, _⟩ => ⟨S512x1024, .bf16⟩
  | .hbm, ⟨18, _⟩ => ⟨S256x512, .bf16⟩
  | .hbm, ⟨19, _⟩ => ⟨S256x256, .bf16⟩
  | .hbm, ⟨20, _⟩ => ⟨S512x256, .bf16⟩
  | .hbm, ⟨21, _⟩ => ⟨S1024x512, .bf16⟩
  | .hbm, ⟨22, _⟩ => ⟨S2048x1024, .bf16⟩
  | .hbm, ⟨23, _⟩ => ⟨S1x1024, .f32⟩
  | .hbm, ⟨24, _⟩ => ⟨S1x512, .f32⟩
  | .hbm, ⟨25, _⟩ => ⟨S1x256, .f32⟩
  | .hbm, ⟨26, _⟩ => ⟨S1x256, .f32⟩
  | .hbm, ⟨27, _⟩ => ⟨S1x512, .f32⟩
  | .hbm, ⟨28, _⟩ => ⟨S1x1024, .f32⟩
  | .hbm, ⟨29, _⟩ => ⟨S1x2048, .f32⟩
  | .hbm, ⟨30, _⟩ => ⟨S8192x2048, .f32⟩
  | .local _ .vmem, ⟨0, _⟩ => ⟨S1024x2048, .f32⟩
  | .local _ .vmem, ⟨1, _⟩ => ⟨S512x1024, .f32⟩
  | .local _ .vmem, ⟨2, _⟩ => ⟨S256x512, .f32⟩
  | .local _ .vmem, ⟨3, _⟩ => ⟨S256x256, .f32⟩
  | .local _ .vmem, ⟨4, _⟩ => ⟨S512x256, .f32⟩
  | .local _ .vmem, ⟨5, _⟩ => ⟨S1024x512, .f32⟩
  | .local _ .vmem, ⟨6, _⟩ => ⟨S2048x1024, .f32⟩
  | .local _ .vmem, ⟨7, _⟩ => ⟨S1024x2048, .bf16⟩
  | .local _ .vmem, ⟨8, _⟩ => ⟨S512x1024, .bf16⟩
  | .local _ .vmem, ⟨9, _⟩ => ⟨S256x512, .bf16⟩
  | .local _ .vmem, ⟨10, _⟩ => ⟨S256x256, .bf16⟩
  | .local _ .vmem, ⟨11, _⟩ => ⟨S512x256, .bf16⟩
  | .local _ .vmem, ⟨12, _⟩ => ⟨S1024x512, .bf16⟩
  | .local _ .vmem, ⟨13, _⟩ => ⟨S2048x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x2048, .bf16⟩
  | .local _ .vmem, ⟨19, _⟩ => ⟨S512x1024, .bf16⟩
  | .local _ .vmem, ⟨20, _⟩ => ⟨S256x512, .bf16⟩
  | .local _ .vmem, ⟨21, _⟩ => ⟨S256x256, .bf16⟩
  | .local _ .vmem, ⟨22, _⟩ => ⟨S512x256, .bf16⟩
  | .local _ .vmem, ⟨23, _⟩ => ⟨S1024x512, .bf16⟩
  | .local _ .vmem, ⟨24, _⟩ => ⟨S2048x1024, .bf16⟩
  | .local _ .vmem, ⟨25, _⟩ => ⟨S1x1024, .f32⟩
  | .local _ .vmem, ⟨26, _⟩ => ⟨S1x512, .f32⟩
  | .local _ .vmem, ⟨27, _⟩ => ⟨S1x256, .f32⟩
  | .local _ .vmem, ⟨28, _⟩ => ⟨S1x256, .f32⟩
  | .local _ .vmem, ⟨29, _⟩ => ⟨S1x512, .f32⟩
  | .local _ .vmem, ⟨30, _⟩ => ⟨S1x1024, .f32⟩
  | .local _ .vmem, ⟨31, _⟩ => ⟨S1x2048, .f32⟩
  | .local _ .vmem, ⟨32, _⟩ => ⟨S1024x2048, .f32⟩
  | .local _ .vmem, ⟨33, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0_0 : Ref sig .tc := ⟨.hbm, 16, rfl⟩
abbrev main_call0_v0_1 : Ref sig .tc := ⟨.hbm, 17, rfl⟩
abbrev main_call0_v0_2 : Ref sig .tc := ⟨.hbm, 18, rfl⟩
abbrev main_call0_v0_3 : Ref sig .tc := ⟨.hbm, 19, rfl⟩
abbrev main_call0_v0_4 : Ref sig .tc := ⟨.hbm, 20, rfl⟩
abbrev main_call0_v0_5 : Ref sig .tc := ⟨.hbm, 21, rfl⟩
abbrev main_call0_v0_6 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_v0 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc1_stg16_0 : Ref sig .tc := ⟨.vmem, 32, rfl⟩
abbrev cc1_stg16_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem16_1 : DmaSem sig := 33

abbrev nD : Nat := 1
abbrev τ : Topo := Topo.v7x

variable {F : FTy → Type} [FloatOps F]

abbrev grid0 : Pipeline.Grid := .none

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S1024x2048 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S1024x512 : Shape := ⟨2, ![1024, 512]⟩
abbrev S2048x1024 : Shape := ⟨2, ![2048, 1024]⟩
abbrev S2048 : Shape := ⟨1, ![2048]⟩
abbrev S8192x2048 : Shape := ⟨2, ![8192, 2048]⟩
abbrev S_ : Shape := ⟨0, ![]⟩
abbrev S1x1024 : Shape := ⟨2, ![1, 1024]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S1x2048 : Shape := ⟨2, ![1, 2048]⟩

abbrev nBuf : Space → Nat
  | .hbm => 255
  | .vmem => 0
  | .smem => 0
  | _ => 0

abbrev hbmTy0_0 (i : Nat) : BufTy := match i % 128 with
  | 0 => ⟨S8192x1024, .f32⟩
  | 1 => ⟨S8192x1024, .f32⟩
  | 2 => ⟨S1024x2048, .f32⟩
  | 3 => ⟨S1024, .f32⟩
  | 4 => ⟨S512x1024, .f32⟩
  | 5 => ⟨S512, .f32⟩
  | 6 => ⟨S256x512, .f32⟩
  | 7 => ⟨S256, .f32⟩
  | 8 => ⟨S256x256, .f32⟩
  | 9 => ⟨S256, .f32⟩
  | 10 => ⟨S512x256, .f32⟩
  | 11 => ⟨S512, .f32⟩
  | 12 => ⟨S1024x512, .f32⟩
  | 13 => ⟨S1024, .f32⟩
  | 14 => ⟨S2048x1024, .f32⟩
  | 15 => ⟨S2048, .f32⟩
  | 16 => ⟨S8192x2048, .f32⟩
  | 17 => ⟨S1024x2048, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S1024x2048, .f32⟩
  | 25 => ⟨S1024x2048, .f32⟩
  | 26 => ⟨S1024x2048, .f32⟩
  | 27 => ⟨S_, .f32⟩
  | 28 => ⟨S_, .f32⟩
  | 29 => ⟨S_, .f32⟩
  | 30 => ⟨S1024x2048, .f32⟩
  | 31 => ⟨S1024x2048, .f32⟩
  | 32 => ⟨S_, .f32⟩
  | 33 => ⟨S1024x2048, .f32⟩
  | 34 => ⟨S1024x2048, .f32⟩
  | 35 => ⟨S1024x2048, .f32⟩
  | 36 => ⟨S1024x2048, .f32⟩
  | 37 => ⟨S2048x1024, .f32⟩
  | 38 => ⟨S8192x1024, .f32⟩
  | 39 => ⟨S1x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S8192x1024, .f32⟩
  | 50 => ⟨S8192x1024, .f32⟩
  | 51 => ⟨S512x1024, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S512x1024, .f32⟩
  | 59 => ⟨S512x1024, .f32⟩
  | 60 => ⟨S512x1024, .f32⟩
  | 61 => ⟨S_, .f32⟩
  | 62 => ⟨S_, .f32⟩
  | 63 => ⟨S_, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S512x1024, .f32⟩
  | 70 => ⟨S512x1024, .f32⟩
  | 71 => ⟨S1024x512, .f32⟩
  | 72 => ⟨S8192x512, .f32⟩
  | 73 => ⟨S1x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S8192x512, .f32⟩
  | 85 => ⟨S256x512, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S256x512, .f32⟩
  | 93 => ⟨S256x512, .f32⟩
  | 94 => ⟨S256x512, .f32⟩
  | 95 => ⟨S_, .f32⟩
  | 96 => ⟨S_, .f32⟩
  | 97 => ⟨S_, .f32⟩
  | 98 => ⟨S256x512, .f32⟩
  | 99 => ⟨S256x512, .f32⟩
  | 100 => ⟨S_, .f32⟩
  | 101 => ⟨S256x512, .f32⟩
  | 102 => ⟨S256x512, .f32⟩
  | 103 => ⟨S256x512, .f32⟩
  | 104 => ⟨S256x512, .f32⟩
  | 105 => ⟨S512x256, .f32⟩
  | 106 => ⟨S8192x256, .f32⟩
  | 107 => ⟨S1x256, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S8192x256, .f32⟩
  | 114 => ⟨S_, .f32⟩
  | 115 => ⟨S8192x256, .f32⟩
  | 116 => ⟨S8192x256, .f32⟩
  | 117 => ⟨S8192x256, .f32⟩
  | 118 => ⟨S8192x256, .f32⟩
  | 119 => ⟨S256x256, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S256x256, .f32⟩
  | 127 => ⟨S256x256, .f32⟩
  | _ => ⟨S8192x1024, .f32⟩

abbrev hbmTy0_1 (i : Nat) : BufTy := match i % 128 with
  | 0 => ⟨S256x256, .f32⟩
  | 1 => ⟨S_, .f32⟩
  | 2 => ⟨S_, .f32⟩
  | 3 => ⟨S_, .f32⟩
  | 4 => ⟨S256x256, .f32⟩
  | 5 => ⟨S256x256, .f32⟩
  | 6 => ⟨S_, .f32⟩
  | 7 => ⟨S256x256, .f32⟩
  | 8 => ⟨S256x256, .f32⟩
  | 9 => ⟨S256x256, .f32⟩
  | 10 => ⟨S256x256, .f32⟩
  | 11 => ⟨S256x256, .f32⟩
  | 12 => ⟨S8192x256, .f32⟩
  | 13 => ⟨S1x256, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S512x256, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S512x256, .f32⟩
  | 33 => ⟨S512x256, .f32⟩
  | 34 => ⟨S512x256, .f32⟩
  | 35 => ⟨S_, .f32⟩
  | 36 => ⟨S_, .f32⟩
  | 37 => ⟨S_, .f32⟩
  | 38 => ⟨S512x256, .f32⟩
  | 39 => ⟨S512x256, .f32⟩
  | 40 => ⟨S_, .f32⟩
  | 41 => ⟨S512x256, .f32⟩
  | 42 => ⟨S512x256, .f32⟩
  | 43 => ⟨S512x256, .f32⟩
  | 44 => ⟨S512x256, .f32⟩
  | 45 => ⟨S256x512, .f32⟩
  | 46 => ⟨S8192x512, .f32⟩
  | 47 => ⟨S1x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S8192x512, .f32⟩
  | 59 => ⟨S1024x512, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S1024x512, .f32⟩
  | 67 => ⟨S1024x512, .f32⟩
  | 68 => ⟨S1024x512, .f32⟩
  | 69 => ⟨S_, .f32⟩
  | 70 => ⟨S_, .f32⟩
  | 71 => ⟨S_, .f32⟩
  | 72 => ⟨S1024x512, .f32⟩
  | 73 => ⟨S1024x512, .f32⟩
  | 74 => ⟨S_, .f32⟩
  | 75 => ⟨S1024x512, .f32⟩
  | 76 => ⟨S1024x512, .f32⟩
  | 77 => ⟨S1024x512, .f32⟩
  | 78 => ⟨S1024x512, .f32⟩
  | 79 => ⟨S512x1024, .f32⟩
  | 80 => ⟨S8192x1024, .f32⟩
  | 81 => ⟨S1x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S8192x1024, .f32⟩
  | 93 => ⟨S2048x1024, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S2048x1024, .f32⟩
  | 101 => ⟨S2048x1024, .f32⟩
  | 102 => ⟨S2048x1024, .f32⟩
  | 103 => ⟨S_, .f32⟩
  | 104 => ⟨S_, .f32⟩
  | 105 => ⟨S_, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S2048x1024, .f32⟩
  | 112 => ⟨S2048x1024, .f32⟩
  | 113 => ⟨S1024x2048, .f32⟩
  | 114 => ⟨S8192x2048, .f32⟩
  | 115 => ⟨S1x2048, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S8192x2048, .f32⟩
  | 122 => ⟨S_, .f32⟩
  | 123 => ⟨S8192x2048, .f32⟩
  | 124 => ⟨S8192x2048, .f32⟩
  | 125 => ⟨S8192x2048, .f32⟩
  | 126 => ⟨S8192x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_6 : Ref sig .tc := ⟨.hbm, 52, rfl⟩
abbrev main_v24 : Ref sig .tc := ⟨.hbm, 53, rfl⟩
abbrev main_cst_7 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_9 : Ref sig .tc := ⟨.hbm, 61, rfl⟩
abbrev main_cst_10 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_11 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_12 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_13 : Ref sig .tc := ⟨.hbm, 86, rfl⟩
abbrev main_v46 : Ref sig .tc := ⟨.hbm, 87, rfl⟩
abbrev main_cst_14 : Ref sig .tc := ⟨.hbm, 88, rfl⟩
abbrev main_v47 : Ref sig .tc := ⟨.hbm, 89, rfl⟩
abbrev main_cst_15 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_16 : Ref sig .tc := ⟨.hbm, 95, rfl⟩
abbrev main_cst_17 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_18 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_19 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_20 : Ref sig .tc := ⟨.hbm, 120, rfl⟩
abbrev main_v68 : Ref sig .tc := ⟨.hbm, 121, rfl⟩
abbrev main_cst_21 : Ref sig .tc := ⟨.hbm, 122, rfl⟩
abbrev main_v69 : Ref sig .tc := ⟨.hbm, 123, rfl⟩
abbrev main_cst_22 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_23 : Ref sig .tc := ⟨.hbm, 129, rfl⟩
abbrev main_cst_24 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_25 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_26 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_27 : Ref sig .tc := ⟨.hbm, 154, rfl⟩
abbrev main_v90 : Ref sig .tc := ⟨.hbm, 155, rfl⟩
abbrev main_cst_28 : Ref sig .tc := ⟨.hbm, 156, rfl⟩
abbrev main_v91 : Ref sig .tc := ⟨.hbm, 157, rfl⟩
abbrev main_cst_29 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_30 : Ref sig .tc := ⟨.hbm, 163, rfl⟩
abbrev main_cst_31 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_32 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_33 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_34 : Ref sig .tc := ⟨.hbm, 188, rfl⟩
abbrev main_v112 : Ref sig .tc := ⟨.hbm, 189, rfl⟩
abbrev main_cst_35 : Ref sig .tc := ⟨.hbm, 190, rfl⟩
abbrev main_v113 : Ref sig .tc := ⟨.hbm, 191, rfl⟩
abbrev main_cst_36 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_37 : Ref sig .tc := ⟨.hbm, 197, rfl⟩
abbrev main_cst_38 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_call11_v3 : Ref sig .tc := ⟨.hbm, 202, rfl⟩
abbrev main_call11_v4 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_cst_39 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_cst_40 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_41 : Ref sig .tc := ⟨.hbm, 222, rfl⟩
abbrev main_v134 : Ref sig .tc := ⟨.hbm, 223, rfl⟩
abbrev main_cst_42 : Ref sig .tc := ⟨.hbm, 224, rfl⟩
abbrev main_v135 : Ref sig .tc := ⟨.hbm, 225, rfl⟩
abbrev main_cst_43 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_cst_44 : Ref sig .tc := ⟨.hbm, 231, rfl⟩
abbrev main_cst_45 : Ref sig .tc := ⟨.hbm, 232, rfl⟩
abbrev main_call13_v0 : Ref sig .tc := ⟨.hbm, 233, rfl⟩
abbrev main_call13_v1 : Ref sig .tc := ⟨.hbm, 234, rfl⟩
abbrev main_call13_v2 : Ref sig .tc := ⟨.hbm, 235, rfl⟩
abbrev main_call13_v3 : Ref sig .tc := ⟨.hbm, 236, rfl⟩
abbrev main_call13_v4 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_cst_46 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_cst_47 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩

abbrev nD : Nat := 1
abbrev τ : Topo := Topo.v7x

variable {F : FTy → Type} [FloatOps F]
-- ==== Proof.LaunchRun.lean ====
/-
  The kernel's run, read at every buffer. The two launches of the kernel (the quantiser, then the multilayer
  perceptron) and the seven reshapes between them leave each buffer that outlives the launches at the contents `W3`,
  which is the launch memory carried through the three steps. The frame states only what this says of the arguments;
  the value of the result needs it at the result array as well.
-/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every weakly fair execution of the kernel ends, and then every buffer that
    outlives its launches holds what the three steps leave there. -/
theorem run_memory : θ_run defs (onTc (τ := τ) (main (F := F))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- No argument lives inside a launch. -/
theorem args_unscoped : ∀ a ∈ argRefs, ¬ (Proc.devRef .tc a : DevRef τ sig).isScoped := by decide

/-- The same, read at the result array and at the arguments: the result holds what the perceptron's write-backs leave,
    and every argument is as it was. -/
theorem run_result : θ_run defs (onTc (τ := τ) (main (F := F))) ⟨m, fun _ => 0, ρ⟩ (fun r => ∀ c : Dev nD,
      r.2.mem ((c.tc : Thread nD τ).loc main_v0) = (dat1 (V2 m ρ) c).arrAt 16 cfg1.N
      ∧ ∀ a ∈ argRefs, r.2.mem ((c.tc : Thread nD τ).loc a) = m ((c.tc : Thread nD τ).loc a)) :=
  (θ_run defs _ _).mono (fun _ h c =>
    ⟨(h c _ (mem_uc main_v0 (by decide))).trans (W3_arr m ρ c 16),
     fun a ha => (h c _ (mem_uc a (args_unscoped a ha))).trans (W3_args m ρ c a ha)⟩)
    (run_memory m ρ)

end Cert.KernelIdeal.Whole

end
-- ==== Proof.Perceptron.lean ====
/-
  The mathematics of the kernel, over the extended reals: ternary weights, the Gaussian error linear unit, and a
  multilayer perceptron of seven layers applied to one row. Nothing here speaks of blocks, launches or memory.
-/
module

public import Idealize.ShloMosaic.Lib.Pointwise

@[expose] public section

set_option maxRecDepth 16384

noncomputable section

namespace Cert.Perceptron

open Idealize.ShloMosaic

/-- A vector of `n` extended reals. -/
abbrev Vect (n : Nat) : Type := Fin n → EReal

/-- A matrix of `a` rows and `b` columns. -/
abbrev Mat (a b : Nat) : Type := Fin a → Fin b → EReal

/-- The number that a float32 word denotes. -/
abbrev lit (w : BitVec 32) : EReal := Ideal.ofBits .f32 w

/-- The scale of a matrix: the mean of the magnitudes of its entries, plus a small constant. The number of
    entries is given as the float word `n`. -/
def scale (n : BitVec 32) {a b : Nat} (W : Mat a b) : EReal :=
  Ideal.div (∑ i, ∑ j, max (W i j) (-(W i j))) (lit n) + lit 0x322BCC77#32

/-- The ternary matrix: each entry over the scale, rounded to the nearest integer (ties to even) and clipped to
    the range from minus one to one. -/
def tern (n : BitVec 32) {a b : Nat} (W : Mat a b) : Mat a b := fun i j =>
  min 1 (max (lit 0xBF800000#32) (Ideal.liftRound Ideal.roundHalfEven (Ideal.div (W i j) (scale n W))))

/-- The Gaussian error linear unit, with the constants the programs print for one half and for the reciprocal of
    the square root of two. -/
def gelu (x : EReal) : EReal := lit 0x3F000000#32 * x * (1 + Ideal.erf (x * lit 0x3F3504F3#32))

/-- The affine part of a layer: row `o` of the weights against the input, plus the bias. -/
def affine {k n : Nat} (x : Vect k) (W : Mat n k) (b : Vect n) : Vect n := fun o => (∑ q, x q * W o q) + b o

/-- One layer: the affine part, then the unit. -/
def layer {k n : Nat} (x : Vect k) (W : Mat n k) (b : Vect n) : Vect n := fun o => gelu (affine x W b o)

/-- Two vectors of 1024 entries end to end. -/
def join (z a : Vect 1024) : Vect 2048 := fun q =>
  if h : q.val < 1024 then z ⟨q.val, h⟩ else a ⟨q.val - 1024, by omega⟩

/-- The perceptron's parameters: seven weight matrices and seven biases. -/
@[ext] structure Net where
  w1 : Mat 1024 2048
  w2 : Mat 512 1024
  w3 : Mat 256 512
  w4 : Mat 256 256
  w5 : Mat 512 256
  w6 : Mat 1024 512
  w7 : Mat 2048 1024
  b1 : Vect 1024
  b2 : Vect 512
  b3 : Vect 256
  b4 : Vect 256
  b5 : Vect 512
  b6 : Vect 1024
  b7 : Vect 2048

/-- The same biases with every weight matrix made ternary. -/
def Net.tern (N : Net) : Net := { N with
  w1 := Perceptron.tern 0x4A000000#32 N.w1
  w2 := Perceptron.tern 0x49000000#32 N.w2
  w3 := Perceptron.tern 0x48000000#32 N.w3
  w4 := Perceptron.tern 0x47800000#32 N.w4
  w5 := Perceptron.tern 0x48000000#32 N.w5
  w6 := Perceptron.tern 0x49000000#32 N.w6
  w7 := Perceptron.tern 0x4A000000#32 N.w7 }

/-- The perceptron at one input row: its seven layers in order. -/
def Net.apply (N : Net) (x : Vect 2048) : Vect 2048 :=
  layer (layer (layer (layer (layer (layer (layer x N.w1 N.b1) N.w2 N.b2) N.w3 N.b3) N.w4 N.b4) N.w5 N.b5)
    N.w6 N.b6) N.w7 N.b7

/-- The product of a joined row with a weight row is the sum of the products of the two halves. -/
theorem sum_join (z a : Vect 1024) (w : Vect 2048) :
    ∑ q, join z a q * w q = (∑ q : Fin 1024, z q * w ⟨q.val, by omega⟩) + ∑ q : Fin 1024, a q * w ⟨1024 + q.val, by omega⟩ := by
  rw [Fin.sum_univ_two_halves 1024 1024 rfl fun q => join z a q * w q]
  congr 1 <;> refine Finset.sum_congr rfl fun q _ => ?_ <;> simp [join]

/-- Row `r` of a matrix held as an array of rank two. -/
abbrev row {a b : Nat} (x : (⟨2, ![a, b]⟩ : Shape).Idx → EReal) (r : Fin a) : Vect b := fun k => x (ix2 r k)

/-- The matrix held as an array of rank two. -/
abbrev mat {a b : Nat} (x : (⟨2, ![a, b]⟩ : Shape).Idx → EReal) : Mat a b := fun i j => x (ix2 i j)

/-- Arrays with the same entries hold the same matrix. -/
theorem mat_congr {a b : Nat} {x y : (⟨2, ![a, b]⟩ : Shape).Idx → EReal} (h : ∀ i j, x (ix2 i j) = y (ix2 i j)) :
    mat x = mat y := funext fun i => funext fun j => h i j

/-- Arrays with the same entries in a row hold the same row. -/
theorem row_congr {a b : Nat} {x y : (⟨2, ![a, b]⟩ : Shape).Idx → EReal} {r : Fin a} (h : ∀ j, x (ix2 r j) = y (ix2 r j)) :
    row x r = row y r := funext h

/-- Arrays with the same entries hold matrices with the same ternary matrix. -/
theorem tern_congr {n : BitVec 32} {a b : Nat} {x y : (⟨2, ![a, b]⟩ : Shape).Idx → EReal}
    (h : ∀ i j, x (ix2 i j) = y (ix2 i j)) (i : Fin a) (j : Fin b) : tern n (mat x) i j = tern n (mat y) i j := by
  rw [mat_congr h]

/-- The vector held as an array of rank one. -/
abbrev vec {a : Nat} (x : (⟨1, ![a]⟩ : Shape).Idx → EReal) : Vect a := fun i => x (ix1 i)

end Cert.Perceptron

end
-- ==== Proof.QuantBlock.lean ====
/-
  What the first launch computes. It has one grid point and takes the seven weight matrices whole; each of its seven
  results is the ternary matrix of one of them.
-/
module

public import Idealize.ShloMosaic.Lib.Pointwise
public import Idealize.ShloMosaic.Lib.UnfoldOut
public import Idealize.ShloMosaic.Lib.Pipeline.ValueKit
public import proofs.«01_k».proof.Proof.Gen.KernelIdeal.Frame
public import proofs.«01_k».proof.Proof.Perceptron

@[expose] public section

set_option maxRecDepth 16384

noncomputable section

namespace Cert.KernelIdeal.Quantiser

open Cert.KernelIdeal Cert.KernelIdeal.Gen
open Idealize.ShloMosaic Cert.Perceptron

variable (x0 : Vec Ideal S1024x2048 .f32) (x1 : Vec Ideal S512x1024 .f32) (x2 : Vec Ideal S256x512 .f32)
  (x3 : Vec Ideal S256x256 .f32) (x4 : Vec Ideal S512x256 .f32) (x5 : Vec Ideal S1024x512 .f32)
  (x6 : Vec Ideal S2048x1024 .f32)

/-- The first result of the quantiser is the ternary matrix of the first weights. -/
theorem first (i : Fin 1024) (j : Fin 2048) :
    out0_7 x0 x1 x2 x3 x4 x5 x6 (ix2 i j) = tern 0x4A000000#32 (mat x0) i j := by
  unfold out0_7
  frame_out
  pointwise [k0_pay2, tern, scale, lit, mat]
  rfl

/-- The second result of the quantiser is the ternary matrix of the second weights. -/
theorem second (i : Fin 512) (j : Fin 1024) :
    out0_8 x0 x1 x2 x3 x4 x5 x6 (ix2 i j) = tern 0x49000000#32 (mat x1) i j := by
  unfold out0_8
  frame_out
  pointwise [k0_pay3, tern, scale, lit, mat]
  rfl

/-- The third result of the quantiser is the ternary matrix of the third weights. -/
theorem third (i : Fin 256) (j : Fin 512) :
    out0_9 x0 x1 x2 x3 x4 x5 x6 (ix2 i j) = tern 0x48000000#32 (mat x2) i j := by
  unfold out0_9
  frame_out
  pointwise [k0_pay4, k0_pay5, tern, scale, lit, mat]
  rfl

/-- The fourth result of the quantiser is the ternary matrix of the fourth weights. -/
theorem fourth (i : Fin 256) (j : Fin 256) :
    out0_10 x0 x1 x2 x3 x4 x5 x6 (ix2 i j) = tern 0x47800000#32 (mat x3) i j := by
  unfold out0_10
  frame_out
  pointwise [k0_pay6, tern, scale, lit, mat]
  rfl

/-- The fifth result of the quantiser is the ternary matrix of the fifth weights. -/
theorem fifth (i : Fin 512) (j : Fin 256) :
    out0_11 x0 x1 x2 x3 x4 x5 x6 (ix2 i j) = tern 0x48000000#32 (mat x4) i j := by
  unfold out0_11
  frame_out
  pointwise [k0_pay7, k0_pay8, tern, scale, lit, mat]
  rfl

/-- The sixth result of the quantiser is the ternary matrix of the sixth weights. -/
theorem sixth (i : Fin 1024) (j : Fin 512) :
    out0_12 x0 x1 x2 x3 x4 x5 x6 (ix2 i j) = tern 0x49000000#32 (mat x5) i j := by
  unfold out0_12
  frame_out
  pointwise [k0_pay9, tern, scale, lit, mat]
  rfl

/-- The seventh result of the quantiser is the ternary matrix of the seventh weights. -/
theorem seventh (i : Fin 2048) (j : Fin 1024) :
    out0_13 x0 x1 x2 x3 x4 x5 x6 (ix2 i j) = tern 0x4A000000#32 (mat x6) i j := by
  unfold out0_13
  frame_out
  pointwise [k0_pay10, k0_pay1, tern, scale, lit, mat]
  rfl

end Cert.KernelIdeal.Quantiser

end
-- ==== Proof.QuantArray.lean ====
/-
  What the first launch leaves in memory: each of the seven arrays it writes is the ternary matrix of one of the
  weight arguments. The launch has one grid point, and each of its blocks is a whole array.
-/
module

public import proofs.«01_k».proof.Proof.QuantBlock

@[expose] public section

set_option maxRecDepth 16384

noncomputable section

namespace Cert.KernelIdeal.QuantArray

open Cert.KernelIdeal Cert.KernelIdeal.Gen
open Idealize.ShloMosaic Idealize.ShloMosaic.TcCoe Idealize.SL.Sem Cert.Perceptron

variable (m : (ℓ : Loc nD τ sig) → Buf (Elt Ideal) ℓ) (ρ : Dev nD → PrngReg)

/-- Every block of the first launch starts at the origin of its array. -/
theorem origin : ∀ t : Fin cfg0.N, (win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0])
    ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] :=
  (by decide +kernel : ∀ t : Fin grid0.N, _)

/-- The first array of the launch is the ternary matrix of the first weights. -/
theorem first (c : Dev nD) : (dat0 (V0 m ρ) c).arrAt 7 cfg0.N
    = fun y : S1024x2048.Idx => tern 0x4A000000#32 (mat (m ((c : Thread nD τ).loc main_arg2))) (y 0) (y 1) := by
  refine (dat0 (V0 m ρ) c).arrAt_eq_of_after_last 7 t0_0 (by decide +kernel) _ fun j => ?_
  blk_simp
  rw [after0_7]
  idx_vars j
  refine (Quantiser.first _ _ _ _ _ _ _ _ _).trans (tern_congr (fun a b => ?_) _ _)
  blk_ext [iblk0, V0, W0, origin t0_0]

/-- The second array of the launch is the ternary matrix of the second weights. -/
theorem second (c : Dev nD) : (dat0 (V0 m ρ) c).arrAt 8 cfg0.N
    = fun y : S512x1024.Idx => tern 0x49000000#32 (mat (m ((c : Thread nD τ).loc main_arg4))) (y 0) (y 1) := by
  refine (dat0 (V0 m ρ) c).arrAt_eq_of_after_last 8 t0_0 (by decide +kernel) _ fun j => ?_
  blk_simp
  rw [after0_8]
  idx_vars j
  refine (Quantiser.second _ _ _ _ _ _ _ _ _).trans (tern_congr (fun a b => ?_) _ _)
  blk_ext [iblk0, V0, W0, origin t0_0]

/-- The third array of the launch is the ternary matrix of the third weights. -/
theorem third (c : Dev nD) : (dat0 (V0 m ρ) c).arrAt 9 cfg0.N
    = fun y : S256x512.Idx => tern 0x48000000#32 (mat (m ((c : Thread nD τ).loc main_arg6))) (y 0) (y 1) := by
  refine (dat0 (V0 m ρ) c).arrAt_eq_of_after_last 9 t0_0 (by decide +kernel) _ fun j => ?_
  blk_simp
  rw [after0_9]
  idx_vars j
  refine (Quantiser.third _ _ _ _ _ _ _ _ _).trans (tern_congr (fun a b => ?_) _ _)
  blk_ext [iblk0, V0, W0, origin t0_0]

/-- The fourth array of the launch is the ternary matrix of the fourth weights. -/
theorem fourth (c : Dev nD) : (dat0 (V0 m ρ) c).arrAt 10 cfg0.N
    = fun y : S256x256.Idx => tern 0x47800000#32 (mat (m ((c : Thread nD τ).loc main_arg8))) (y 0) (y 1) := by
  refine (dat0 (V0 m ρ) c).arrAt_eq_of_after_last 10 t0_0 (by decide +kernel) _ fun j => ?_
  blk_simp
  rw [after0_10]
  idx_vars j
  refine (Quantiser.fourth _ _ _ _ _ _ _ _ _).trans (tern_congr (fun a b => ?_) _ _)
  blk_ext [iblk0, V0, W0, origin t0_0]

/-- The fifth array of the launch is the ternary matrix of the fifth weights. -/
theorem fifth (c : Dev nD) : (dat0 (V0 m ρ) c).arrAt 11 cfg0.N
    = fun y : S512x256.Idx => tern 0x48000000#32 (mat (m ((c : Thread nD τ).loc main_arg10))) (y 0) (y 1) := by
  refine (dat0 (V0 m ρ) c).arrAt_eq_of_after_last 11 t0_0 (by decide +kernel) _ fun j => ?_
  blk_simp
  rw [after0_11]
  idx_vars j
  refine (Quantiser.fifth _ _ _ _ _ _ _ _ _).trans (tern_congr (fun a b => ?_) _ _)
  blk_ext [iblk0, V0, W0, origin t0_0]

/-- The sixth array of the launch is the ternary matrix of the sixth weights. -/
theorem sixth (c : Dev nD) : (dat0 (V0 m ρ) c).arrAt 12 cfg0.N
    = fun y : S1024x512.Idx => tern 0x49000000#32 (mat (m ((c : Thread nD τ).loc main_arg12))) (y 0) (y 1) := by
  refine (dat0 (V0 m ρ) c).arrAt_eq_of_after_last 12 t0_0 (by decide +kernel) _ fun j => ?_
  blk_simp
  rw [after0_12]
  idx_vars j
  refine (Quantiser.sixth _ _ _ _ _ _ _ _ _).trans (tern_congr (fun a b => ?_) _ _)
  blk_ext [iblk0, V0, W0, origin t0_0]

/-- The seventh array of the launch is the ternary matrix of the seventh weights. -/
theorem seventh (c : Dev nD) : (dat0 (V0 m ρ) c).arrAt 13 cfg0.N
    = fun y : S2048x1024.Idx => tern 0x4A000000#32 (mat (m ((c : Thread nD τ).loc main_arg14))) (y 0) (y 1) := by
  refine (dat0 (V0 m ρ) c).arrAt_eq_of_after_last 13 t0_0 (by decide +kernel) _ fun j => ?_
  blk_simp
  rw [after0_13]
  idx_vars j
  refine (Quantiser.seventh _ _ _ _ _ _ _ _ _).trans (tern_congr (fun a b => ?_) _ _)
  blk_ext [iblk0, V0, W0, origin t0_0]

end Cert.KernelIdeal.QuantArray

end
-- ==== Proof.KernelOps.lean ====
/-
  The two array-level building blocks of the perceptron's body, at any size, and their values at an index: the affine
  part of a layer (a product against the transposed weights, plus a broadcast bias row) and the unit.
-/
module

public import Idealize.ShloMosaic.Lib.Pointwise
public import Idealize.ShloMosaic.Lib.Pointwise.IndexVar
public import Idealize.ShloMosaic.Lib.MatmulPlain
public import proofs.«01_k».proof.Proof.Perceptron

@[expose] public section

set_option maxRecDepth 16384

noncomputable section

namespace Cert.KernelOps

open Idealize.ShloMosaic Cert.Perceptron

/-- The unit applied to an array, as the body spells it. -/
def unit {s : Shape} (h : FVec Ideal s .f32) : FVec Ideal s .f32 :=
  mulf (mulf (broadcast s (Scalar.ofBits .f32 0x3F000000#32)) h)
    (addf (broadcast s (Scalar.ofBits .f32 0x3F800000#32)) (erf (mulf h (broadcast s (Scalar.ofBits .f32 0x3F3504F3#32)))))

/-- At an index the unit is the Gaussian error linear unit of the entry. -/
theorem unit_apply {s : Shape} (h : FVec Ideal s .f32) (i : s.Idx) : unit h i = gelu (h i) := by
  pointwise [unit, gelu, lit]
  rfl

/-- A product against the transposed weights, accumulated from zero. -/
def prod {M K N : Nat} (x : FVec Ideal ⟨2, ![M, K]⟩ .f32) (w : FVec Ideal ⟨2, ![N, K]⟩ .bf16) : FVec Ideal ⟨2, ![M, N]⟩ .f32 :=
  matmul (DotDims.transposedRhs M K N) none (truncf .bf16 x) w (constant ⟨2, ![M, N]⟩ .f32 0x00000000#32)

/-- At an index the product is the sum over the shared axis. -/
theorem prod_apply {M K N : Nat} (x : FVec Ideal ⟨2, ![M, K]⟩ .f32) (w : FVec Ideal ⟨2, ![N, K]⟩ .bf16) (r : Fin M) (o : Fin N) :
    prod x w (ix2 r o) = ∑ k, x (ix2 r k) * w (ix2 o k) := by
  refine (Ideal.matmul_transposedRhs_apply none _ _ _ r o).trans ?_
  pointwise
  rfl

/-- A bias row of one line, repeated on every line of the block. -/
def biasRow {M N : Nat} (b : FVec Ideal ⟨2, ![1, N]⟩ .f32) (h : (⟨2, ![1, N]⟩ : Shape).ShapeCasts ⟨2, ![1, N]⟩)
    (hb : (⟨2, ![1, N]⟩ : Shape).Broadcasts ⟨2, ![M, N]⟩) : FVec Ideal ⟨2, ![M, N]⟩ .f32 :=
  broadcastTo ⟨2, ![M, N]⟩ (shapeCast ⟨2, ![1, N]⟩ b h) hb

/-- At an index the repeated bias is the bias of the column. -/
theorem biasRow_apply {M N : Nat} (b : FVec Ideal ⟨2, ![1, N]⟩ .f32) (h : (⟨2, ![1, N]⟩ : Shape).ShapeCasts ⟨2, ![1, N]⟩)
    (hb : (⟨2, ![1, N]⟩ : Shape).Broadcasts ⟨2, ![M, N]⟩) (r : Fin M) (o : Fin N) :
    biasRow b h hb (ix2 r o) = b (ix2 0 o) := by
  pointwise [biasRow]
  refine congrArg (fun k : Fin N => b (ix2 0 k)) ?_
  by_cases hN : N = 1
  · subst hN
    exact Subsingleton.elim _ _
  · exact dif_neg hN

/-- The affine part of a layer of the body: the product, then the bias row. -/
def lin {M K N : Nat} (x : FVec Ideal ⟨2, ![M, K]⟩ .f32) (w : FVec Ideal ⟨2, ![N, K]⟩ .bf16)
    (b : FVec Ideal ⟨2, ![1, N]⟩ .f32) (hw : (⟨2, ![N, K]⟩ : Shape).ShapeCasts ⟨2, ![N, K]⟩)
    (h : (⟨2, ![1, N]⟩ : Shape).ShapeCasts ⟨2, ![1, N]⟩) (hb : (⟨2, ![1, N]⟩ : Shape).Broadcasts ⟨2, ![M, N]⟩) :
    FVec Ideal ⟨2, ![M, N]⟩ .f32 :=
  addf (prod x (shapeCast ⟨2, ![N, K]⟩ w hw)) (biasRow b h hb)

/-- A row of the unit of the affine part is the layer of the row. -/
theorem unit_lin_row {M K N : Nat} (x : FVec Ideal ⟨2, ![M, K]⟩ .f32) (w : FVec Ideal ⟨2, ![N, K]⟩ .bf16)
    (b : FVec Ideal ⟨2, ![1, N]⟩ .f32) (hw : (⟨2, ![N, K]⟩ : Shape).ShapeCasts ⟨2, ![N, K]⟩)
    (h : (⟨2, ![1, N]⟩ : Shape).ShapeCasts ⟨2, ![1, N]⟩) (hb : (⟨2, ![1, N]⟩ : Shape).Broadcasts ⟨2, ![M, N]⟩) (r : Fin M) :
    row (unit (lin x w b hw h hb)) r = layer (row x r) (mat w) (row b 0) := by
  funext o
  refine (unit_apply _ _).trans (congrArg gelu ?_)
  show prod x (shapeCast ⟨2, ![N, K]⟩ w hw) (ix2 r o) + biasRow b h hb (ix2 r o) = _
  rw [prod_apply, biasRow_apply, shapeCast_id]
  rfl

end Cert.KernelOps

end
-- ==== Proof.MlpBlock.lean ====
/-
  What one block of the second launch computes: the seven-layer perceptron at each of the block's 1024 rows. Its two
  input blocks are the halves of the rows; its weights and biases come whole.
-/
module

public import Idealize.ShloMosaic.Lib.Pipeline.ValueKit
public import proofs.«01_k».proof.Proof.Gen.KernelIdeal.Frame
public import proofs.«01_k».proof.Proof.KernelOps

@[expose] public section

set_option maxRecDepth 16384

noncomputable section

namespace Cert.KernelIdeal.MlpBlock

open Cert.KernelIdeal Cert.KernelIdeal.Gen
open Idealize.ShloMosaic Cert.Perceptron Cert.KernelOps

/-- The first layer of the body: the two halves of the input, each against its half of the weights' columns. -/
def head (z a : FVec Ideal S1024x1024 .f32) (w : FVec Ideal S1024x2048 .bf16) (b : FVec Ideal S1x1024 .f32) :
    FVec Ideal S1024x1024 .f32 :=
  have w' : FVec Ideal S1024x2048 .bf16 := shapeCast S1024x2048 w shapeCasts_S1024x2048_S1024x2048
  unit (addf
    (addf (prod z (extractStridedSlice S1024x1024 ![0, 0] w' slices_S1024x2048_o0_0_S1024x1024))
      (prod a (extractStridedSlice S1024x1024 ![0, 1024] w' slices_S1024x2048_o0_1024_S1024x1024)))
    (biasRow b shapeCasts_S1x1024_S1x1024 broadcasts_S1x1024_S1024x1024))

/-- A row of the first layer of the body is the layer of the two halves of the row, joined. -/
theorem head_row (z a : FVec Ideal S1024x1024 .f32) (w : FVec Ideal S1024x2048 .bf16) (b : FVec Ideal S1x1024 .f32) (r : Fin 1024) :
    row (head z a w b) r = layer (join (row z r) (row a r)) (mat w) (row b 0) := by
  funext o
  refine (unit_apply _ _).trans (congrArg gelu ?_)
  refine Eq.trans (congrArg₂ (· + ·) (congrArg₂ (· + ·) (prod_apply _ _ r o) (prod_apply _ _ r o)) (biasRow_apply _ _ _ r o)) ?_
  unfold affine
  rw [sum_join]
  pointwise

variable (x0 x1 : Vec Ideal S1024x1024 .f32) (x2 : Vec Ideal S1024x2048 .bf16) (x3 : Vec Ideal S512x1024 .bf16)
  (x4 : Vec Ideal S256x512 .bf16) (x5 : Vec Ideal S256x256 .bf16) (x6 : Vec Ideal S512x256 .bf16)
  (x7 : Vec Ideal S1024x512 .bf16) (x8 : Vec Ideal S2048x1024 .bf16) (x9 : Vec Ideal S1x1024 .f32)
  (x10 : Vec Ideal S1x512 .f32) (x11 x12 : Vec Ideal S1x256 .f32) (x13 : Vec Ideal S1x512 .f32)
  (x14 : Vec Ideal S1x1024 .f32) (x15 : Vec Ideal S1x2048 .f32)

/-- The perceptron that the launch's weight and bias blocks hold. -/
def net : Net where
  w1 := mat x2
  w2 := mat x3
  w3 := mat x4
  w4 := mat x5
  w5 := mat x6
  w6 := mat x7
  w7 := mat x8
  b1 := row x9 0
  b2 := row x10 0
  b3 := row x11 0
  b4 := row x12 0
  b5 := row x13 0
  b6 := row x14 0
  b7 := row x15 0

/-- The value the body carries out of its second layer before the unit. -/
theorem second_eq : k1_pay2 x2 x0 x1 x9 x3 x10 =
    lin (head x0 x1 x2 x9) x3 x10 shapeCasts_S512x1024_S512x1024 shapeCasts_S1x512_S1x512 broadcasts_S1x512_S1024x512 := rfl

/-- From there to the product of the fifth layer. -/
theorem fifth_eq : k1_pay5 (k1_pay3 x2 x0 x1 x9 x3 x10) (k1_pay4 x2 x0 x1 x9 x3 x10) x4 x11 x5 x12 x6 =
    prod (unit (lin (unit (lin (unit (k1_pay2 x2 x0 x1 x9 x3 x10))
      x4 x11 shapeCasts_S256x512_S256x512 shapeCasts_S1x256_S1x256 broadcasts_S1x256_S1024x256))
      x5 x12 shapeCasts_S256x256_S256x256 shapeCasts_S1x256_S1x256 broadcasts_S1x256_S1024x256))
      (shapeCast S512x256 x6 shapeCasts_S512x256_S512x256) := rfl

/-- From there to the last layer before the unit. -/
theorem seventh_eq (v : FVec Ideal S1024x512 .f32) : k1_pay7 v (k1_pay6 x13) x7 x14 x8 x15 =
    lin (unit (lin (unit (addf v (biasRow x13 shapeCasts_S1x512_S1x512 broadcasts_S1x512_S1024x512)))
      x7 x14 shapeCasts_S1024x512_S1024x512 shapeCasts_S1x1024_S1x1024 broadcasts_S1x1024_S1024x1024))
      x8 x15 shapeCasts_S2048x1024_S2048x1024 shapeCasts_S1x2048_S1x2048 broadcasts_S1x2048_S1024x2048 := rfl

/-- The last unit. -/
theorem last_eq (v : FVec Ideal S1024x512 .f32) (b : FVec Ideal S1x512 .f32) :
    k1_pay1 (k1_pay8 v b x7 x14 x8 x15) (k1_pay9 v b x7 x14 x8 x15) = unit (k1_pay7 v b x7 x14 x8 x15) := rfl

/-- The block's result is the seven layers of the body in order. -/
theorem out_eq : out1_16 x0 x1 x2 x3 x4 x5 x6 x7 x8 x9 x10 x11 x12 x13 x14 x15 =
    unit (lin (unit (lin (unit (lin (unit (lin (unit (lin (unit (lin (head x0 x1 x2 x9)
      x3 x10 shapeCasts_S512x1024_S512x1024 shapeCasts_S1x512_S1x512 broadcasts_S1x512_S1024x512))
      x4 x11 shapeCasts_S256x512_S256x512 shapeCasts_S1x256_S1x256 broadcasts_S1x256_S1024x256))
      x5 x12 shapeCasts_S256x256_S256x256 shapeCasts_S1x256_S1x256 broadcasts_S1x256_S1024x256))
      x6 x13 shapeCasts_S512x256_S512x256 shapeCasts_S1x512_S1x512 broadcasts_S1x512_S1024x512))
      x7 x14 shapeCasts_S1024x512_S1024x512 shapeCasts_S1x1024_S1x1024 broadcasts_S1x1024_S1024x1024))
      x8 x15 shapeCasts_S2048x1024_S2048x1024 shapeCasts_S1x2048_S1x2048 broadcasts_S1x2048_S1024x2048) := by
  unfold_out out1_16
  frame_out
  rw [last_eq, fifth_eq, second_eq, seventh_eq]
  rfl

/-- A row of the block's result is the perceptron at the two halves of the row, joined. -/
theorem out_row (r : Fin 1024) : row (out1_16 x0 x1 x2 x3 x4 x5 x6 x7 x8 x9 x10 x11 x12 x13 x14 x15) r =
    (net x2 x3 x4 x5 x6 x7 x8 x9 x10 x11 x12 x13 x14 x15).apply (join (row x0 r) (row x1 r)) := by
  rw [out_eq, unit_lin_row, unit_lin_row, unit_lin_row, unit_lin_row, unit_lin_row, unit_lin_row, head_row]
  rfl

end Cert.KernelIdeal.MlpBlock

end
-- ==== Proof.MlpInputs.lean ====
/-
  What the second launch reads: the ternary weights that the first launch left, and the biases reshaped to one row. Each
  of these blocks is a whole array at every grid point.
-/
module

public import Idealize.ShloMosaic.Lib.StableHlo.RunRead
public import proofs.«01_k».proof.Proof.QuantArray
public import proofs.«01_k».proof.Proof.MlpBlock

@[expose] public section

set_option maxRecDepth 16384

noncomputable section

namespace Cert.KernelIdeal.MlpInputs

open Cert.KernelIdeal Cert.KernelIdeal.Gen
open Idealize.ShloMosaic Idealize.ShloMosaic.TcCoe Idealize.SL.Sem Cert.Perceptron

variable (m : (ℓ : Loc nD τ sig) → Buf (Elt Ideal) ℓ) (ρ : Dev nD → PrngReg)

/-- The weight and bias blocks of the second launch start at the origin at every grid point. -/
theorem origin : ∀ t : Fin cfg1.N, (win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0])
    ∧ win1_9.index t = ![0, 0] ∧ win1_10.index t = ![0, 0] ∧ win1_11.index t = ![0, 0]
    ∧ win1_12.index t = ![0, 0] ∧ win1_13.index t = ![0, 0] ∧ win1_14.index t = ![0, 0] ∧ win1_15.index t = ![0, 0] :=
  (by decide +kernel : ∀ t : Fin grid1.N, _)

/-- A vector reshaped to a single row is that row. -/
theorem row_reshape {n : Nat} (v : (⟨1, ![n]⟩ : Shape).Idx → EReal) (h : (⟨1, ![n]⟩ : Shape).ShapeCasts ⟨2, ![1, n]⟩) :
    row (shapeCast ⟨2, ![1, n]⟩ v h) 0 = vec v := by
  funext b
  refine (shapeCast_addUnit_apply ![n] v h (ix2 0 b)).trans (congrArg v (funext fun a => ?_))
  obtain rfl : a = 0 := Subsingleton.elim _ _
  rfl

/-- The first weight block is the ternary matrix of the first weights. -/
theorem weights1 (c : Dev nD) (t : Fin cfg1.N) :
    mat (iblk1 (V2 m ρ) c 2 t) = tern 0x4A000000#32 (mat (m ((c : Thread nD τ).loc main_arg2))) := by
  have h : V2 m ρ c main_call0_v0_0 = _ :=
    ((W2_of m ρ c main_call0_v0_0 (by decide)).trans (W1_arr m ρ c 7)).trans (QuantArray.first m ρ c)
  refine (mat_congr (y := V2 m ρ c main_call0_v0_0) fun a b => ?_).trans (congrArg mat h)
  blk_ext [iblk1, origin t]

/-- The second weight block is the ternary matrix of the second weights. -/
theorem weights2 (c : Dev nD) (t : Fin cfg1.N) :
    mat (iblk1 (V2 m ρ) c 3 t) = tern 0x49000000#32 (mat (m ((c : Thread nD τ).loc main_arg4))) := by
  have h : V2 m ρ c main_call0_v0_1 = _ :=
    ((W2_of m ρ c main_call0_v0_1 (by decide)).trans (W1_arr m ρ c 8)).trans (QuantArray.second m ρ c)
  refine (mat_congr (y := V2 m ρ c main_call0_v0_1) fun a b => ?_).trans (congrArg mat h)
  blk_ext [iblk1, origin t]

/-- The third weight block is the ternary matrix of the third weights. -/
theorem weights3 (c : Dev nD) (t : Fin cfg1.N) :
    mat (iblk1 (V2 m ρ) c 4 t) = tern 0x48000000#32 (mat (m ((c : Thread nD τ).loc main_arg6))) := by
  have h : V2 m ρ c main_call0_v0_2 = _ :=
    ((W2_of m ρ c main_call0_v0_2 (by decide)).trans (W1_arr m ρ c 9)).trans (QuantArray.third m ρ c)
  refine (mat_congr (y := V2 m ρ c main_call0_v0_2) fun a b => ?_).trans (congrArg mat h)
  blk_ext [iblk1, origin t]

/-- The fourth weight block is the ternary matrix of the fourth weights. -/
theorem weights4 (c : Dev nD) (t : Fin cfg1.N) :
    mat (iblk1 (V2 m ρ) c 5 t) = tern 0x47800000#32 (mat (m ((c : Thread nD τ).loc main_arg8))) := by
  have h : V2 m ρ c main_call0_v0_3 = _ :=
    ((W2_of m ρ c main_call0_v0_3 (by decide)).trans (W1_arr m ρ c 10)).trans (QuantArray.fourth m ρ c)
  refine (mat_congr (y := V2 m ρ c main_call0_v0_3) fun a b => ?_).trans (congrArg mat h)
  blk_ext [iblk1, origin t]

/-- The fifth weight block is the ternary matrix of the fifth weights. -/
theorem weights5 (c : Dev nD) (t : Fin cfg1.N) :
    mat (iblk1 (V2 m ρ) c 6 t) = tern 0x48000000#32 (mat (m ((c : Thread nD τ).loc main_arg10))) := by
  have h : V2 m ρ c main_call0_v0_4 = _ :=
    ((W2_of m ρ c main_call0_v0_4 (by decide)).trans (W1_arr m ρ c 11)).trans (QuantArray.fifth m ρ c)
  refine (mat_congr (y := V2 m ρ c main_call0_v0_4) fun a b => ?_).trans (congrArg mat h)
  blk_ext [iblk1, origin t]

/-- The sixth weight block is the ternary matrix of the sixth weights. -/
theorem weights6 (c : Dev nD) (t : Fin cfg1.N) :
    mat (iblk1 (V2 m ρ) c 7 t) = tern 0x49000000#32 (mat (m ((c : Thread nD τ).loc main_arg12))) := by
  have h : V2 m ρ c main_call0_v0_5 = _ :=
    ((W2_of m ρ c main_call0_v0_5 (by decide)).trans (W1_arr m ρ c 12)).trans (QuantArray.sixth m ρ c)
  refine (mat_congr (y := V2 m ρ c main_call0_v0_5) fun a b => ?_).trans (congrArg mat h)
  blk_ext [iblk1, origin t]

/-- The seventh weight block is the ternary matrix of the seventh weights. -/
theorem weights7 (c : Dev nD) (t : Fin cfg1.N) :
    mat (iblk1 (V2 m ρ) c 8 t) = tern 0x4A000000#32 (mat (m ((c : Thread nD τ).loc main_arg14))) := by
  have h : V2 m ρ c main_call0_v0_6 = _ :=
    ((W2_of m ρ c main_call0_v0_6 (by decide)).trans (W1_arr m ρ c 13)).trans (QuantArray.seventh m ρ c)
  refine (mat_congr (y := V2 m ρ c main_call0_v0_6) fun a b => ?_).trans (congrArg mat h)
  blk_ext [iblk1, origin t]

/-- The first bias block is the first bias. -/
theorem bias1 (c : Dev nD) (t : Fin cfg1.N) :
    row (iblk1 (V2 m ρ) c 9 t) 0 = vec (m ((c : Thread nD τ).loc main_arg3)) := by
  have h : V2 m ρ c main_call0_v1 = shapeCast S1x1024 (m ((c : Thread nD τ).loc main_arg3)) shapeCasts_S1024_S1x1024 := by
    dsimp only [V2, W2]
    after_reads_simp
    exact congrArg (fun v => shapeCast S1x1024 v shapeCasts_S1024_S1x1024) (W1_args m ρ c main_arg3 (by decide))
  refine (row_congr (y := V2 m ρ c main_call0_v1) fun b => ?_).trans ((congrArg (row · 0) h).trans (row_reshape _ _))
  blk_ext [iblk1, origin t]

/-- The second bias block is the second bias. -/
theorem bias2 (c : Dev nD) (t : Fin cfg1.N) :
    row (iblk1 (V2 m ρ) c 10 t) 0 = vec (m ((c : Thread nD τ).loc main_arg5)) := by
  have h : V2 m ρ c main_call0_v2 = shapeCast S1x512 (m ((c : Thread nD τ).loc main_arg5)) shapeCasts_S512_S1x512 := by
    dsimp only [V2, W2]
    after_reads_simp
    exact congrArg (fun v => shapeCast S1x512 v shapeCasts_S512_S1x512) (W1_args m ρ c main_arg5 (by decide))
  refine (row_congr (y := V2 m ρ c main_call0_v2) fun b => ?_).trans ((congrArg (row · 0) h).trans (row_reshape _ _))
  blk_ext [iblk1, origin t]

/-- The third bias block is the third bias. -/
theorem bias3 (c : Dev nD) (t : Fin cfg1.N) :
    row (iblk1 (V2 m ρ) c 11 t) 0 = vec (m ((c : Thread nD τ).loc main_arg7)) := by
  have h : V2 m ρ c main_call0_v3 = shapeCast S1x256 (m ((c : Thread nD τ).loc main_arg7)) shapeCasts_S256_S1x256 := by
    dsimp only [V2, W2]
    after_reads_simp
    exact congrArg (fun v => shapeCast S1x256 v shapeCasts_S256_S1x256) (W1_args m ρ c main_arg7 (by decide))
  refine (row_congr (y := V2 m ρ c main_call0_v3) fun b => ?_).trans ((congrArg (row · 0) h).trans (row_reshape _ _))
  blk_ext [iblk1, origin t]

/-- The fourth bias block is the fourth bias. -/
theorem bias4 (c : Dev nD) (t : Fin cfg1.N) :
    row (iblk1 (V2 m ρ) c 12 t) 0 = vec (m ((c : Thread nD τ).loc main_arg9)) := by
  have h : V2 m ρ c main_call0_v4 = shapeCast S1x256 (m ((c : Thread nD τ).loc main_arg9)) shapeCasts_S256_S1x256 := by
    dsimp only [V2, W2]
    after_reads_simp
    exact congrArg (fun v => shapeCast S1x256 v shapeCasts_S256_S1x256) (W1_args m ρ c main_arg9 (by decide))
  refine (row_congr (y := V2 m ρ c main_call0_v4) fun b => ?_).trans ((congrArg (row · 0) h).trans (row_reshape _ _))
  blk_ext [iblk1, origin t]

/-- The fifth bias block is the fifth bias. -/
theorem bias5 (c : Dev nD) (t : Fin cfg1.N) :
    row (iblk1 (V2 m ρ) c 13 t) 0 = vec (m ((c : Thread nD τ).loc main_arg11)) := by
  have h : V2 m ρ c main_call0_v5 = shapeCast S1x512 (m ((c : Thread nD τ).loc main_arg11)) shapeCasts_S512_S1x512 := by
    dsimp only [V2, W2]
    after_reads_simp
    exact congrArg (fun v => shapeCast S1x512 v shapeCasts_S512_S1x512) (W1_args m ρ c main_arg11 (by decide))
  refine (row_congr (y := V2 m ρ c main_call0_v5) fun b => ?_).trans ((congrArg (row · 0) h).trans (row_reshape _ _))
  blk_ext [iblk1, origin t]

/-- The sixth bias block is the sixth bias. -/
theorem bias6 (c : Dev nD) (t : Fin cfg1.N) :
    row (iblk1 (V2 m ρ) c 14 t) 0 = vec (m ((c : Thread nD τ).loc main_arg13)) := by
  have h : V2 m ρ c main_call0_v6 = shapeCast S1x1024 (m ((c : Thread nD τ).loc main_arg13)) shapeCasts_S1024_S1x1024 := by
    dsimp only [V2, W2]
    after_reads_simp
    exact congrArg (fun v => shapeCast S1x1024 v shapeCasts_S1024_S1x1024) (W1_args m ρ c main_arg13 (by decide))
  refine (row_congr (y := V2 m ρ c main_call0_v6) fun b => ?_).trans ((congrArg (row · 0) h).trans (row_reshape _ _))
  blk_ext [iblk1, origin t]

/-- The seventh bias block is the seventh bias. -/
theorem bias7 (c : Dev nD) (t : Fin cfg1.N) :
    row (iblk1 (V2 m ρ) c 15 t) 0 = vec (m ((c : Thread nD τ).loc main_arg15)) := by
  have h : V2 m ρ c main_call0_v7 = shapeCast S1x2048 (m ((c : Thread nD τ).loc main_arg15)) shapeCasts_S2048_S1x2048 := by
    dsimp only [V2, W2]
    after_reads_simp
    exact congrArg (fun v => shapeCast S1x2048 v shapeCasts_S2048_S1x2048) (W1_args m ρ c main_arg15 (by decide))
  refine (row_congr (y := V2 m ρ c main_call0_v7) fun b => ?_).trans ((congrArg (row · 0) h).trans (row_reshape _ _))
  blk_ext [iblk1, origin t]

end Cert.KernelIdeal.MlpInputs

end
-- ==== Proof.MlpArray.lean ====
/-
  What the kernel leaves in its result array: every row is the seven-layer perceptron, over ternary weights, at the
  row of the two inputs joined. The second launch writes it in eight blocks of 1024 rows, each whole in its columns.
-/
module

public import proofs.«01_k».proof.Proof.MlpInputs

@[expose] public section

set_option maxRecDepth 16384

noncomputable section

namespace Cert.KernelIdeal.MlpArray

open Cert.KernelIdeal Cert.KernelIdeal.Gen
open Idealize.ShloMosaic Idealize.ShloMosaic.TcCoe Idealize.SL.Sem Cert.Perceptron

variable (m : (ℓ : Loc nD τ sig) → Buf (Elt Ideal) ℓ) (ρ : Dev nD → PrngReg)

/-- The perceptron that the kernel's arguments hold on device `c`, its weights not yet ternary. -/
def args (c : Dev nD) : Net where
  w1 := mat (m ((c : Thread nD τ).loc main_arg2))
  w2 := mat (m ((c : Thread nD τ).loc main_arg4))
  w3 := mat (m ((c : Thread nD τ).loc main_arg6))
  w4 := mat (m ((c : Thread nD τ).loc main_arg8))
  w5 := mat (m ((c : Thread nD τ).loc main_arg10))
  w6 := mat (m ((c : Thread nD τ).loc main_arg12))
  w7 := mat (m ((c : Thread nD τ).loc main_arg14))
  b1 := vec (m ((c : Thread nD τ).loc main_arg3))
  b2 := vec (m ((c : Thread nD τ).loc main_arg5))
  b3 := vec (m ((c : Thread nD τ).loc main_arg7))
  b4 := vec (m ((c : Thread nD τ).loc main_arg9))
  b5 := vec (m ((c : Thread nD τ).loc main_arg11))
  b6 := vec (m ((c : Thread nD τ).loc main_arg13))
  b7 := vec (m ((c : Thread nD τ).loc main_arg15))

/-- What the result array is to hold: row by row, the ternary perceptron at the joined row of the two inputs. -/
def value (c : Dev nD) : S8192x2048.Idx → EReal := fun y =>
  (args m c).tern.apply (join (row (m ((c : Thread nD τ).loc main_arg0)) (y 0)) (row (m ((c : Thread nD τ).loc main_arg1)) (y 0))) (y 1)

/-- The weight and bias blocks of the second launch hold the ternary perceptron of the arguments. -/
theorem net_eq (c : Dev nD) (t : Fin cfg1.N) :
    MlpBlock.net (iblk1 (V2 m ρ) c 2 t) (iblk1 (V2 m ρ) c 3 t) (iblk1 (V2 m ρ) c 4 t) (iblk1 (V2 m ρ) c 5 t)
      (iblk1 (V2 m ρ) c 6 t) (iblk1 (V2 m ρ) c 7 t) (iblk1 (V2 m ρ) c 8 t) (iblk1 (V2 m ρ) c 9 t)
      (iblk1 (V2 m ρ) c 10 t) (iblk1 (V2 m ρ) c 11 t) (iblk1 (V2 m ρ) c 12 t) (iblk1 (V2 m ρ) c 13 t)
      (iblk1 (V2 m ρ) c 14 t) (iblk1 (V2 m ρ) c 15 t) = (args m c).tern := by
  unfold MlpBlock.net
  rw [MlpInputs.weights1, MlpInputs.weights2, MlpInputs.weights3, MlpInputs.weights4, MlpInputs.weights5,
    MlpInputs.weights6, MlpInputs.weights7, MlpInputs.bias1, MlpInputs.bias2, MlpInputs.bias3, MlpInputs.bias4,
    MlpInputs.bias5, MlpInputs.bias6, MlpInputs.bias7]
  rfl

/-- The input and result blocks of grid point `t` start at block row `t` of their arrays. -/
theorem rows : ∀ t : Fin cfg1.N, win1_0.index t = ![(grid1.coords t 0).val, 0] ∧ win1_1.index t = ![(grid1.coords t 0).val, 0]
    ∧ win1_16.index t = ![(grid1.coords t 0).val, 0] :=
  (by decide +kernel : ∀ t : Fin grid1.N, _)

/-- A row of the first input's block is the row of the first input at which the result's block has it. -/
theorem input0 (c : Dev nD) (t : Fin cfg1.N) (r : Fin 1024) (o : Fin 2048) :
    row (iblk1 (V2 m ρ) c 0 t) r = row (m ((c : Thread nD τ).loc main_arg0)) (((cfg1.win 16).blk t).view.emb (ix2 r o) 0) := by
  have h : V2 m ρ c main_arg0 = _ := W2_args m ρ c main_arg0 (by decide)
  rw [← h]
  refine funext fun k => ?_
  show iblk1 (V2 m ρ) c 0 t (ix2 r k) = V2 m ρ c main_arg0 (ix2 _ k)
  blk_ext [iblk1, rows t]

/-- A row of the second input's block is the row of the second input at which the result's block has it. -/
theorem input1 (c : Dev nD) (t : Fin cfg1.N) (r : Fin 1024) (o : Fin 2048) :
    row (iblk1 (V2 m ρ) c 1 t) r = row (m ((c : Thread nD τ).loc main_arg1)) (((cfg1.win 16).blk t).view.emb (ix2 r o) 0) := by
  have h : V2 m ρ c main_arg1 = _ := W2_args m ρ c main_arg1 (by decide)
  rw [← h]
  refine funext fun k => ?_
  show iblk1 (V2 m ρ) c 1 t (ix2 r k) = V2 m ρ c main_arg1 (ix2 _ k)
  blk_ext [iblk1, rows t]

/-- A column of the result's block is the same column of the result. -/
theorem column (t : Fin cfg1.N) (r : Fin 1024) (o : Fin 2048) :
    (((cfg1.win 16).blk t).view.emb (ix2 r o) 1 : Fin 2048) = o := by
  refine Fin.ext ?_
  blk_simp [rows t]

/-- The result array after the two launches. -/
theorem result (c : Dev nD) : (dat1 (V2 m ρ) c).arrAt 16 cfg1.N = value m c := by
  refine (dat1 (V2 m ρ) c).arrAt_eq_of_covers 16 (value m c) (by decide +kernel) fun t _ y => ?_
  blk_simp
  rw [after1_16]
  idx_vars y
  refine (congrFun (MlpBlock.out_row _ _ _ _ _ _ _ _ _ _ _ _ _ _ _ _ _) _).trans ?_
  rw [net_eq, input0 m ρ c t _ y1, input1 m ρ c t _ y1]
  exact congrArg (fun o => Net.apply _ _ o) (column t y0 y1).symm

end Cert.KernelIdeal.MlpArray

end
-- ==== Proof.HostOps.lean ====
/-
  The array-level building blocks of the reference, at any size, and their values at an index: the ternary weights with
  the reference's correction term, the affine part of a layer, and the unit written with the complementary error function.
-/
module

public import Idealize.ShloMosaic.Lib.Pointwise
public import Idealize.ShloMosaic.Lib.Pointwise.IndexVar
public import Idealize.ShloMosaic.Lib.StackMember
public import Idealize.ShloMosaic.PureOps.Ideal.Laws
public import proofs.«01_k».proof.Proof.Perceptron

@[expose] public section

set_option maxRecDepth 16384

noncomputable section

namespace Cert.HostOps

open Idealize.ShloMosaic Cert.Perceptron

/-- The shape of a scalar array. -/
abbrev S0 : Shape := ⟨0, ![]⟩

/-- A scalar constant repeated over an array. -/
def fill {s : Shape} (w : BitVec 32) (h : S0.BroadcastsInDim s ![]) : FVec Ideal s .f32 :=
  broadcastInDim s ![] h (constant S0 .f32 w)

/-- The unit applied to an array, as the reference spells it. -/
def unit {s : Shape} (x : FVec Ideal s .f32) (h : S0.BroadcastsInDim s ![]) : FVec Ideal s .f32 :=
  mulf (mulf (fill 0x3F000000#32 h) x) (Host.erfc (mulf (Host.negf x) (fill 0x3F3504F3#32 h)))

/-- At an index the unit is the Gaussian error linear unit of the entry: the complementary error function at a negated
    argument is one plus the error function. -/
theorem unit_apply {s : Shape} (x : FVec Ideal s .f32) (h : S0.BroadcastsInDim s ![]) (i : s.Idx) :
    unit x h i = gelu (x i) := by
  show lit 0x3F000000#32 * x i * Ideal.erfc (-(x i) * lit 0x3F3504F3#32) = gelu (x i)
  rw [neg_mul, Ideal.erfc_neg]
  rfl

/-- The scale of a weight array, as the reference spells it. -/
def scaleArr {a b : Nat} (n : BitVec 32) (W : FVec Ideal ⟨2, ![a, b]⟩ .f32)
    (hr : (⟨2, ![a, b]⟩ : Shape).ReducesTo [0, 1] S0) (hu : 0 < S0.numel) : FVec Ideal S0 .f32 :=
  addf (Host.divf (Host.reduceAdd (Host.absf W) (constant S0 .f32 0x00000000#32) hr hu) (constant S0 .f32 n))
    (constant S0 .f32 0x322BCC77#32)

/-- The scale array holds the scale of the matrix. -/
theorem scaleArr_apply {a b : Nat} (n : BitVec 32) (W : FVec Ideal ⟨2, ![a, b]⟩ .f32)
    (hr : (⟨2, ![a, b]⟩ : Shape).ReducesTo [0, 1] S0) (hu : 0 < S0.numel) (k : S0.Idx) :
    scaleArr n W hr hu k = scale n (mat W) := by
  pointwise [scaleArr, scale, lit, mat]
  rfl

/-- The ternary weights, as the reference spells them: the last summand is the correction through which training
    passes a gradient, the weights less themselves. -/
def ternArr {a b : Nat} (n : BitVec 32) (W : FVec Ideal ⟨2, ![a, b]⟩ .f32) (h : S0.BroadcastsInDim ⟨2, ![a, b]⟩ ![])
    (hr : (⟨2, ![a, b]⟩ : Shape).ReducesTo [0, 1] S0) (hu : 0 < S0.numel) : FVec Ideal ⟨2, ![a, b]⟩ .f32 :=
  addf (minimumf (broadcastInDim ⟨2, ![a, b]⟩ ![] h (id (constant S0 .f32 0x3F800000#32)))
      (maximumf (broadcastInDim ⟨2, ![a, b]⟩ ![] h (id (constant S0 .f32 0xBF800000#32)))
        (Host.roundeven (Host.divf W (broadcastInDim ⟨2, ![a, b]⟩ ![] h (scaleArr n W hr hu))))))
    (subf W W)

/-- The entries of an array are finite. -/
def Finite {s : Shape} (W : s.Idx → EReal) : Prop := ∀ i, W i ≠ ⊤ ∧ W i ≠ ⊥

/-- Where the weights are finite the correction is zero, and the ternary weights are the ternary matrix. -/
theorem ternArr_apply {a b : Nat} (n : BitVec 32) (W : FVec Ideal ⟨2, ![a, b]⟩ .f32) (h : S0.BroadcastsInDim ⟨2, ![a, b]⟩ ![])
    (hr : (⟨2, ![a, b]⟩ : Shape).ReducesTo [0, 1] S0) (hu : 0 < S0.numel) (hW : Finite W) (i : Fin a) (j : Fin b) :
    ternArr n W h hr hu (ix2 i j) = tern n (mat W) i j := by
  have one : lit 0x3F800000#32 = 1 := by pointwise [lit]
  show min (lit 0x3F800000#32) (max (lit 0xBF800000#32) (Ideal.liftRound Ideal.roundHalfEven
    (Ideal.div (W (ix2 i j)) (scaleArr n W hr hu _)))) + (W (ix2 i j) - W (ix2 i j)) = _
  rw [EReal.sub_self (hW _).1 (hW _).2, add_zero, scaleArr_apply, one]
  rfl

/-- The affine part of a layer, as the reference spells it: the product with the transposed weights, plus the bias. -/
def lin {M K N : Nat} (x : FVec Ideal ⟨2, ![M, K]⟩ .f32) (Q : FVec Ideal ⟨2, ![N, K]⟩ .f32) (b : FVec Ideal ⟨1, ![N]⟩ .f32)
    (ht : (⟨2, ![N, K]⟩ : Shape).Transposes [1, 0] ⟨2, ![K, N]⟩) (h1 : (⟨1, ![N]⟩ : Shape).BroadcastsInDim ⟨2, ![1, N]⟩ ![1])
    (h2 : (⟨2, ![1, N]⟩ : Shape).BroadcastsInDim ⟨2, ![M, N]⟩ ![0, 1]) : FVec Ideal ⟨2, ![M, N]⟩ .f32 :=
  addf (Host.dotGeneral (DotDims.plain M K N) none x (transpose ⟨2, ![K, N]⟩ [1, 0] Q ht))
    (broadcastInDim ⟨2, ![M, N]⟩ ![0, 1] h2 (broadcastInDim ⟨2, ![1, N]⟩ ![1] h1 b))

/-- The transposed weights at an index. -/
theorem transpose_apply {K N : Nat} (Q : FVec Ideal ⟨2, ![N, K]⟩ .f32)
    (ht : (⟨2, ![N, K]⟩ : Shape).Transposes [1, 0] ⟨2, ![K, N]⟩) (k : Fin K) (o : Fin N) :
    transpose ⟨2, ![K, N]⟩ [1, 0] Q ht (ix2 k o) = Q (ix2 o k) := by
  refine Idealize.ShloMosaic.transpose_apply _ _ _ _ (ix2 o k) fun b => ?_
  fin_cases b <;> rfl

/-- The repeated bias at an index. -/
theorem bias_apply {M N : Nat} (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (r : Fin M) (o : Fin N) :
    broadcastInDim ⟨2, ![M, N]⟩ ![0, 1] h2 (broadcastInDim ⟨2, ![1, N]⟩ ![1] h1 b) (ix2 r o) = b (ix1 o) := by
  refine (broadcastInDim_oneRow_apply h2 _ r o).trans (congrArg b (funext fun a => ?_))
  obtain rfl : a = 0 := Subsingleton.elim _ _
  by_cases hN : N = 1
  · subst hN
    exact Subsingleton.elim (α := Fin 1) _ _
  · exact dif_neg hN

/-- A row of the affine part is the affine part of the row. -/
theorem lin_row {M K N : Nat} (x : FVec Ideal ⟨2, ![M, K]⟩ .f32) (Q : FVec Ideal ⟨2, ![N, K]⟩ .f32) (b : FVec Ideal ⟨1, ![N]⟩ .f32)
    (ht : (⟨2, ![N, K]⟩ : Shape).Transposes [1, 0] ⟨2, ![K, N]⟩) (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    row (lin x Q b ht h1 h2) r = affine (row x r) (mat Q) (vec b) := by
  funext o
  refine congrArg₂ (· + ·) ((StackMember.dotGeneral_plain_apply none x _ r o).trans ?_) (bias_apply b h1 h2 r o)
  exact Finset.sum_congr rfl fun k _ => congrArg (x (ix2 r k) * ·) (transpose_apply Q ht k o)

/-- A row of the affine part over ternary weights, when the weights are finite. -/
theorem lin_tern_row {M K N : Nat} (n : BitVec 32) (x : FVec Ideal ⟨2, ![M, K]⟩ .f32) (W : FVec Ideal ⟨2, ![N, K]⟩ .f32)
    (b : FVec Ideal ⟨1, ![N]⟩ .f32) (h : S0.BroadcastsInDim ⟨2, ![N, K]⟩ ![])
    (hr : (⟨2, ![N, K]⟩ : Shape).ReducesTo [0, 1] S0) (hu : 0 < S0.numel)
    (ht : (⟨2, ![N, K]⟩ : Shape).Transposes [1, 0] ⟨2, ![K, N]⟩) (h1 : (⟨1, ![N]⟩ : Shape).BroadcastsInDim ⟨2, ![1, N]⟩ ![1])
    (h2 : (⟨2, ![1, N]⟩ : Shape).BroadcastsInDim ⟨2, ![M, N]⟩ ![0, 1]) (hW : Finite W) {r : Fin M} {v : Vect K} (hx : row x r = v) :
    row (lin x (ternArr n W h hr hu) b ht h1 h2) r = affine v (tern n (mat W)) (vec b) := by
  rw [lin_row, hx, show mat (ternArr n W h hr hu) = tern n (mat W) from
    funext fun i => funext fun j => ternArr_apply n W h hr hu hW i j]

/-- A row of the unit of an array, when the array's row is the affine part of a layer, is the layer. -/
theorem unit_row {M N K : Nat} {y : FVec Ideal ⟨2, ![M, N]⟩ .f32} (h : S0.BroadcastsInDim ⟨2, ![M, N]⟩ ![]) {r : Fin M}
    {x : Vect K} {W : Mat N K} {b : Vect N} (hy : row y r = affine x W b) : row (unit y h) r = layer x W b := by
  funext o
  exact (unit_apply y h _).trans (congrArg gelu (congrFun hy o))

end Cert.HostOps

end
-- ==== Proof.RefValue.lean ====
/-
  What the reference computes: every row of its result is the seven-layer perceptron, over ternary weights, at the row of
  its two inputs joined, provided that the weights are finite.
-/
module

public import proofs.«01_k».proof.Proof.Gen.ReferenceIdeal.Run
public import proofs.«01_k».proof.Proof.HostOps

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Cert.Perceptron Cert.HostOps

variable (V : Valuation τ sig (Elt Ideal))

/-- The perceptron that the reference's arguments hold, its weights not yet ternary. -/
def args : Net where
  w1 := mat (a := 1024) (b := 2048) (V (Proc.devRef .tc main_arg2))
  w2 := mat (a := 512) (b := 1024) (V (Proc.devRef .tc main_arg4))
  w3 := mat (a := 256) (b := 512) (V (Proc.devRef .tc main_arg6))
  w4 := mat (a := 256) (b := 256) (V (Proc.devRef .tc main_arg8))
  w5 := mat (a := 512) (b := 256) (V (Proc.devRef .tc main_arg10))
  w6 := mat (a := 1024) (b := 512) (V (Proc.devRef .tc main_arg12))
  w7 := mat (a := 2048) (b := 1024) (V (Proc.devRef .tc main_arg14))
  b1 := vec (a := 1024) (V (Proc.devRef .tc main_arg3))
  b2 := vec (a := 512) (V (Proc.devRef .tc main_arg5))
  b3 := vec (a := 256) (V (Proc.devRef .tc main_arg7))
  b4 := vec (a := 256) (V (Proc.devRef .tc main_arg9))
  b5 := vec (a := 512) (V (Proc.devRef .tc main_arg11))
  b6 := vec (a := 1024) (V (Proc.devRef .tc main_arg13))
  b7 := vec (a := 2048) (V (Proc.devRef .tc main_arg15))

/-- Row `r` of the two inputs, joined. -/
def input (r : Fin 8192) : Vect 2048 :=
  join (row (a := 8192) (b := 1024) (V (Proc.devRef .tc main_arg0)) r) (row (a := 8192) (b := 1024) (V (Proc.devRef .tc main_arg1)) r)

/-- The two inputs side by side, at a row. -/
theorem input_row (z a : FVec Ideal S8192x1024 .f32) (r : Fin 8192) :
    row (concatenate S8192x2048 1 [⟨S8192x1024, z⟩, ⟨S8192x1024, a⟩] concatenates_S8192x1024_S8192x1024_S8192x2048_d1) r
      = join (row z r) (row a r) := by
  funext q
  pointwise [join]

/-- All seven weight arguments are finite. -/
structure FiniteWeights : Prop where
  w1 : Finite (s := S1024x2048) (V (Proc.devRef .tc main_arg2))
  w2 : Finite (s := S512x1024) (V (Proc.devRef .tc main_arg4))
  w3 : Finite (s := S256x512) (V (Proc.devRef .tc main_arg6))
  w4 : Finite (s := S256x256) (V (Proc.devRef .tc main_arg8))
  w5 : Finite (s := S512x256) (V (Proc.devRef .tc main_arg10))
  w6 : Finite (s := S1024x512) (V (Proc.devRef .tc main_arg12))
  w7 : Finite (s := S2048x1024) (V (Proc.devRef .tc main_arg14))

variable {V} (hW : FiniteWeights V) (r : Fin 8192)
include hW

/-- The first layer before its unit, at a row. -/
theorem first : row (a := 8192) (b := 1024) (res_main_v15 V) r
    = affine (input V r) (args V).tern.w1 (args V).tern.b1 :=
  lin_tern_row 0x4A000000#32 _ _ _ _ _ _ _ _ _ hW.w1 (input_row _ _ r)

/-- The second layer before its unit, at a row. -/
theorem second : row (a := 8192) (b := 512) (res_main_v37 V) r
    = affine (layer (input V r) (args V).tern.w1 (args V).tern.b1) (args V).tern.w2 (args V).tern.b2 :=
  lin_tern_row 0x49000000#32 _ _ _ _ _ _ _ _ _ hW.w2 (unit_row _ (first hW r))

/-- The third layer before its unit, at a row. -/
theorem third : row (a := 8192) (b := 256) (res_main_v59 V) r
    = affine (layer (layer (input V r) (args V).tern.w1 (args V).tern.b1) (args V).tern.w2 (args V).tern.b2) (args V).tern.w3 (args V).tern.b3 :=
  lin_tern_row 0x48000000#32 _ _ _ _ _ _ _ _ _ hW.w3 (unit_row _ (second hW r))

/-- The fourth layer before its unit, at a row. -/
theorem fourth : row (a := 8192) (b := 256) (res_main_v81 V) r
    = affine (layer (layer (layer (input V r) (args V).tern.w1 (args V).tern.b1) (args V).tern.w2 (args V).tern.b2) (args V).tern.w3 (args V).tern.b3) (args V).tern.w4 (args V).tern.b4 :=
  lin_tern_row 0x47800000#32 _ _ _ _ _ _ _ _ _ hW.w4 (unit_row _ (third hW r))

/-- The fifth layer before its unit, at a row. -/
theorem fifth : row (a := 8192) (b := 512) (res_main_v103 V) r
    = affine (layer (layer (layer (layer (input V r) (args V).tern.w1 (args V).tern.b1) (args V).tern.w2 (args V).tern.b2) (args V).tern.w3 (args V).tern.b3) (args V).tern.w4 (args V).tern.b4) (args V).tern.w5 (args V).tern.b5 :=
  lin_tern_row 0x48000000#32 _ _ _ _ _ _ _ _ _ hW.w5 (unit_row _ (fourth hW r))

/-- The sixth layer before its unit, at a row. -/
theorem sixth : row (a := 8192) (b := 1024) (res_main_v125 V) r
    = affine (layer (layer (layer (layer (layer (input V r) (args V).tern.w1 (args V).tern.b1) (args V).tern.w2 (args V).tern.b2) (args V).tern.w3 (args V).tern.b3) (args V).tern.w4 (args V).tern.b4) (args V).tern.w5 (args V).tern.b5) (args V).tern.w6 (args V).tern.b6 :=
  lin_tern_row 0x49000000#32 _ _ _ _ _ _ _ _ _ hW.w6 (unit_row _ (fifth hW r))

/-- The seventh layer before its unit, at a row. -/
theorem seventh : row (a := 8192) (b := 2048) (res_main_v147 V) r
    = affine (layer (layer (layer (layer (layer (layer (input V r) (args V).tern.w1 (args V).tern.b1) (args V).tern.w2 (args V).tern.b2) (args V).tern.w3 (args V).tern.b3) (args V).tern.w4 (args V).tern.b4) (args V).tern.w5 (args V).tern.b5) (args V).tern.w6 (args V).tern.b6) (args V).tern.w7 (args V).tern.b7 :=
  lin_tern_row 0x4A000000#32 _ _ _ _ _ _ _ _ _ hW.w7 (unit_row _ (sixth hW r))

/-- The reference's result at an index. -/
theorem result (y : S8192x2048.Idx) :
    (mulf (mulf (broadcastInDim S8192x2048 ![] bcast_S_S8192x2048 (constant S_ .f32 0x3F000000#32)) (res_main_v147 V))
      (Host.erfc (mulf (Host.negf (res_main_v147 V)) (broadcastInDim S8192x2048 ![] bcast_S_S8192x2048 (constant S_ .f32 0x3F3504F3#32))))
      : FVec Ideal S8192x2048 .f32) y = (args V).tern.apply (input V (y 0)) (y 1) := by
  idx_vars y
  exact congrFun (unit_row _ (seventh hW y0)) y1

end Cert.ReferenceIdeal.RefValue

end
-- ==== Proof.Equation.lean ====
/-
  The equation of the claim: on finite weights the reference's result is the array that the kernel leaves.
-/
module

public import proofs.«01_k».proof.Defs
public import proofs.«01_k».proof.Proof.Gen.Pre_finite_weights
public import proofs.«01_k».proof.Proof.MlpArray
public import proofs.«01_k».proof.Proof.RefValue

@[expose] public section

set_option maxRecDepth 16384

noncomputable section

namespace Cert.Equation

open Idealize.ShloMosaic Idealize.ShloMosaic.StableHlo Idealize.ShloMosaic.TcCoe Idealize.SL.Sem Cert.Perceptron Cert.HostOps

/-- Where the magnitude of every entry compares below infinity, the entries are finite. -/
theorem finite_of_test {s : Shape} (W : FVec Ideal s .f32) (h : S0.BroadcastsInDim s ![])
    (ht : cmpf .olt (Host.absf W) (broadcastInDim s ![] h (constant S0 .f32 0x7F800000#32)) = fun _ => 1#1) : Finite W := by
  intro i
  have top : lit 0x7F800000#32 = ⊤ := by simp [lit, Ideal.ofBits, Ideal.ieee]
  have hi : BitVec.ofBool (decide (max (W i) (-(W i)) < lit 0x7F800000#32)) = 1#1 := congrFun ht i
  rw [top] at hi
  have hlt : max (W i) (-(W i)) < ⊤ := by
    by_contra hn
    simp [hn] at hi
  refine ⟨fun e => ?_, fun e => ?_⟩ <;> rw [e] at hlt <;> simp at hlt

/-- An array equal to a finite one is finite. -/
theorem finite_of_eq {s : Shape} {W W' : FVec Ideal s .f32} (e : W' = W) (h : Finite W) : Finite W' := e ▸ h

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs' arguments agree on device `c`. -/
def Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)
  ∧ m' ((c.tc : Thread ReferenceIdeal.nD ReferenceIdeal.τ).loc ReferenceIdeal.main_arg10) = m ((c.tc : Thread KernelIdeal.nD KernelIdeal.τ).loc KernelIdeal.main_arg10)
  ∧ m' ((c.tc : Thread ReferenceIdeal.nD ReferenceIdeal.τ).loc ReferenceIdeal.main_arg11) = m ((c.tc : Thread KernelIdeal.nD KernelIdeal.τ).loc KernelIdeal.main_arg11)
  ∧ m' ((c.tc : Thread ReferenceIdeal.nD ReferenceIdeal.τ).loc ReferenceIdeal.main_arg12) = m ((c.tc : Thread KernelIdeal.nD KernelIdeal.τ).loc KernelIdeal.main_arg12)
  ∧ m' ((c.tc : Thread ReferenceIdeal.nD ReferenceIdeal.τ).loc ReferenceIdeal.main_arg13) = m ((c.tc : Thread KernelIdeal.nD KernelIdeal.τ).loc KernelIdeal.main_arg13)
  ∧ m' ((c.tc : Thread ReferenceIdeal.nD ReferenceIdeal.τ).loc ReferenceIdeal.main_arg14) = m ((c.tc : Thread KernelIdeal.nD KernelIdeal.τ).loc KernelIdeal.main_arg14)
  ∧ m' ((c.tc : Thread ReferenceIdeal.nD ReferenceIdeal.τ).loc ReferenceIdeal.main_arg15) = m ((c.tc : Thread KernelIdeal.nD KernelIdeal.τ).loc KernelIdeal.main_arg15)

variable {m m'}

/-- Arguments that agree hold the same perceptron. -/
theorem args_eq {c : Dev KernelIdeal.nD} (h : Agree m m' c) :
    ReferenceIdeal.RefValue.args (launchContents m' c) = KernelIdeal.MlpArray.args m c := by
  obtain ⟨-, -, h2, h3, h4, h5, h6, h7, h8, h9, h10, h11, h12, h13, h14, h15⟩ := h
  exact Net.ext (congrArg mat h2) (congrArg mat h4) (congrArg mat h6) (congrArg mat h8) (congrArg mat h10)
    (congrArg mat h12) (congrArg mat h14) (congrArg vec h3) (congrArg vec h5) (congrArg vec h7) (congrArg vec h9)
    (congrArg vec h11) (congrArg vec h13) (congrArg vec h15)

/-- Arguments that agree have the same input rows. -/
theorem input_eq {c : Dev KernelIdeal.nD} (h : Agree m m' c) (r : Fin 8192) :
    ReferenceIdeal.RefValue.input (launchContents m' c) r
      = join (row (m ((c.tc : Thread KernelIdeal.nD KernelIdeal.τ).loc KernelIdeal.main_arg0)) r)
        (row (m ((c.tc : Thread KernelIdeal.nD KernelIdeal.τ).loc KernelIdeal.main_arg1)) r) :=
  congrArg₂ join (congrArg (row · r) h.1) (congrArg (row · r) h.2.1)

/-- The precondition says that the weights are finite, and so they are in the reference's arguments. -/
theorem finite {c : Dev KernelIdeal.nD} (hp : Pre_KernelIdeal_finite_weights m) (h : Agree m m' c) :
    ReferenceIdeal.RefValue.FiniteWeights (launchContents m' c) := by
  obtain ⟨-, -, h2, -, h4, -, h6, -, h8, -, h10, -, h12, -, h14, -⟩ := h
  obtain ⟨p1, p2, p3, p4, p5, p6, p7⟩ := hp c
  exact ⟨finite_of_eq h2 (finite_of_test _ _ p1), finite_of_eq h4 (finite_of_test _ _ p2), finite_of_eq h6 (finite_of_test _ _ p3), finite_of_eq h8 (finite_of_test _ _ p4),
    finite_of_eq h10 (finite_of_test _ _ p5), finite_of_eq h12 (finite_of_test _ _ p6), finite_of_eq h14 (finite_of_test _ _ p7)⟩

/-- On finite weights and arguments that agree, the reference's result is the kernel's array. -/
theorem result {c : Dev KernelIdeal.nD} (hp : Pre_KernelIdeal_finite_weights m) (h : Agree m m' c) :
    (mulf (mulf (broadcastInDim ReferenceIdeal.S8192x2048 ![] ReferenceIdeal.Gen.bcast_S_S8192x2048 (constant ReferenceIdeal.S_ .f32 0x3F000000#32))
        (ReferenceIdeal.Value.res_main_v147 (launchContents m' c)))
      (Host.erfc (mulf (Host.negf (ReferenceIdeal.Value.res_main_v147 (launchContents m' c)))
        (broadcastInDim ReferenceIdeal.S8192x2048 ![] ReferenceIdeal.Gen.bcast_S_S8192x2048 (constant ReferenceIdeal.S_ .f32 0x3F3504F3#32))))
      : FVec Ideal ReferenceIdeal.S8192x2048 .f32) = KernelIdeal.MlpArray.value m c := by
  funext y
  refine (ReferenceIdeal.RefValue.result (finite hp h) y).trans ?_
  rw [args_eq h]
  exact congrArg (fun x => (KernelIdeal.MlpArray.args m c).tern.apply x (y 1)) (input_eq h (y 0))

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_weights
public import proofs.«01_k».proof.Proof.LaunchRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends, its arguments and counters as they were: over every reading of the floats. -/
theorem frame_kernel : Cert.quiescent_Kernel := fun m g _ => Cert.Kernel.Gen.frame m g

/-- The same of the kernel over the extended reals. -/
theorem frame_kernelIdeal : Cert.quiescent_KernelIdeal := fun m g _ => Cert.KernelIdeal.Gen.frame m g

/-- The same under the precondition. -/
theorem frame_kernelIdeal_finite : Cert.quiescent_KernelIdeal_pre_finite_weights := fun m g _ => Cert.KernelIdeal.Gen.frame m g

/-- The reference ends, its arguments and counters as they were. -/
theorem frame_referenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same under the precondition. -/
theorem frame_referenceIdeal_finite : Cert.quiescent_ReferenceIdeal_pre_finite_weights := fun m g _ =>
  frame_referenceIdeal m g trivial

/-- On finite weights the kernel and the reference, run on the same arguments, leave the same result. -/
theorem algebraic : Cert.algebraic_KernelIdeal_ReferenceIdeal_pre_finite_weights := fun m g m' g' hp agree =>
  ⟨fun c => Cert.KernelIdeal.MlpArray.value m c,
    (θ_run Cert.KernelIdeal.defs _ _).mono (fun _ h c => ⟨(h c).1.trans (Cert.KernelIdeal.MlpArray.result m g c),
       (h c).2 Cert.KernelIdeal.main_arg0 (by decide),
       (h c).2 Cert.KernelIdeal.main_arg1 (by decide),
       (h c).2 Cert.KernelIdeal.main_arg2 (by decide),
       (h c).2 Cert.KernelIdeal.main_arg3 (by decide),
       (h c).2 Cert.KernelIdeal.main_arg4 (by decide),
       (h c).2 Cert.KernelIdeal.main_arg5 (by decide),
       (h c).2 Cert.KernelIdeal.main_arg6 (by decide),
       (h c).2 Cert.KernelIdeal.main_arg7 (by decide),
       (h c).2 Cert.KernelIdeal.main_arg8 (by decide),
       (h c).2 Cert.KernelIdeal.main_arg9 (by decide),
       (h c).2 Cert.KernelIdeal.main_arg10 (by decide),
       (h c).2 Cert.KernelIdeal.main_arg11 (by decide),
       (h c).2 Cert.KernelIdeal.main_arg12 (by decide),
       (h c).2 Cert.KernelIdeal.main_arg13 (by decide),
       (h c).2 Cert.KernelIdeal.main_arg14 (by decide),
       (h c).2 Cert.KernelIdeal.main_arg15 (by decide)⟩)
      (Cert.KernelIdeal.Whole.run_result (F := Ideal) m g),
    (θ_run Cert.ReferenceIdeal.defs _ _).mono (fun _ h c => ⟨(h c).1.trans (Cert.Equation.result hp (agree c)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_finite_weights.Gen.facts,
    frame_kernel, frame_kernelIdeal, frame_kernelIdeal_finite, frame_referenceIdeal, frame_referenceIdeal_finite,
    trivial, algebraic⟩

end Cert.Proof

end
